-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_active_prefix [hPre_active_prefix : Cert.Pre_active_prefix.Facts] (m : (ℓ : Loc Cert.KernelIdeal.nD Cert.KernelIdeal.τ Cert.KernelIdeal.sig) → Buf (Elt Ideal) ℓ) : Prop :=
  ∀ c : Dev Cert.KernelIdeal.nD,
    (Cert.Pre_active_prefix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_active_prefix [hPre_active_prefix : Cert.Pre_active_prefix.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_active_prefix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_active_prefix [hKernelIdeal : Cert.KernelIdeal.Facts] [hPre_active_prefix : Cert.Pre_active_prefix.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_active_prefix m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_active_prefix [hReferenceIdeal : Cert.ReferenceIdeal.Facts] [hPre_active_prefix : Cert.Pre_active_prefix.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_active_prefix m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_active_prefix [hKernelIdeal : Cert.KernelIdeal.Facts] [hReferenceIdeal : Cert.ReferenceIdeal.Facts] [hPre_active_prefix : Cert.Pre_active_prefix.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_active_prefix m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_active_prefix : Cert.Pre_active_prefix.Facts),
    quiescent_Kernel (hKernel := hKernel)
    ∧ quiescent_KernelIdeal (hKernelIdeal := hKernelIdeal)
    ∧ quiescent_KernelIdeal_pre_active_prefix (hKernelIdeal := hKernelIdeal) (hPre_active_prefix := hPre_active_prefix)
    ∧ quiescent_ReferenceIdeal (hReferenceIdeal := hReferenceIdeal)
    ∧ quiescent_ReferenceIdeal_pre_active_prefix (hReferenceIdeal := hReferenceIdeal) (hPre_active_prefix := hPre_active_prefix)
    ∧ preserves_Kernel_KernelIdeal
    ∧ algebraic_KernelIdeal_ReferenceIdeal_pre_active_prefix (hKernelIdeal := hKernelIdeal) (hReferenceIdeal := hReferenceIdeal) (hPre_active_prefix := hPre_active_prefix)
-- ==== Pre_active_prefix.lean ====
abbrev S100000x128 : Shape := ⟨2, ![100000, 128]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  reducesTo_S50000_S_d0 : S50000.ReducesTo [0] S_
  h_S_ : 0 < S_.numel

variable [Facts]

def fn {F : FTy → Type} [FloatOps F] (main_arg0 : FVec F S100000x128 .f32) (main_arg1 : IVec S50000 32) (main_arg2 : FVec F S128x128 .f32) (main_arg3 : FVec F S128 .f32) : IVec S_ 1 :=
  let main_v0 : IVec S50000 32 := iotaInDim S50000 32 0
  let main_v1 : IVec S50000 1 := cmpi .eq main_arg1 main_v0
  let main_c : IVec S_ 1 := constantI S_ 1 1#1
  let main_v2 : IVec S_ 1 := (fun x v => Host.reduce IntOp.andi x v reducesTo_S50000_S_d0 h_S_) main_v1 main_c
  main_v2
-- ==== Kernel.lean ====
abbrev S100000x128 : Shape := ⟨2, ![100000, 128]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S2x5000x128 : Shape := ⟨3, ![2, 5000, 128]⟩
abbrev S2 : Shape := ⟨1, ![2]⟩
abbrev S4 : Shape := ⟨1, ![4]⟩
abbrev S1 : Shape := ⟨1, ![1]⟩
abbrev S_ : Shape := ⟨0, ![]⟩
abbrev S12500x128 : Shape := ⟨2, ![12500, 128]⟩
abbrev S1x5000x128 : Shape := ⟨3, ![1, 5000, 128]⟩
abbrev S5000x128 : Shape := ⟨2, ![5000, 128]⟩

abbrev nBuf : Space → Nat
  | .hbm => 6
  | .vmem => 4
  | .smem => 0
  | _ => 0

abbrev bufTy : (tb : Table) → Fin (tcTables nBuf tb) → BufTy
  | .hbm, ⟨0, _⟩ => ⟨S100000x128, .f32⟩
  | .hbm, ⟨1, _⟩ => ⟨S50000, .i32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S100000x128, .f32⟩
  | .local _ .vmem, ⟨0, _⟩ => ⟨S128x128, .f32⟩
  | .local _ .vmem, ⟨1, _⟩ => ⟨S1x128, .f32⟩
  | .local _ .vmem, ⟨2, _⟩ => ⟨S2x5000x128, .f32⟩
  | .local _ .vmem, ⟨3, _⟩ => ⟨S2x5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S100000x128 : Shape := ⟨2, ![100000, 128]⟩
abbrev S50000 : Shape := ⟨1, ![50000]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S50000x128 : Shape := ⟨2, ![50000, 128]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000, .i32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S50000, .i32⟩
  | .hbm, ⟨6, _⟩ => ⟨S50000, .i1⟩
  | .hbm, ⟨7, _⟩ => ⟨S_, .i32⟩
  | .hbm, ⟨8, _⟩ => ⟨S50000, .i32⟩
  | .hbm, ⟨9, _⟩ => ⟨S50000, .i32⟩
  | .hbm, ⟨10, _⟩ => ⟨S50000, .i32⟩
  | .hbm, ⟨11, _⟩ => ⟨S50000x1, .i32⟩
  | .hbm, ⟨12, _⟩ => ⟨S1, .i32⟩
  | .hbm, ⟨13, _⟩ => ⟨S_, .i32⟩
  | .hbm, ⟨14, _⟩ => ⟨S50000x1, .i32⟩
  | .hbm, ⟨15, _⟩ => ⟨S50000x1, .i1⟩
  | .hbm, ⟨16, _⟩ => ⟨S1x1, .i32⟩
  | .hbm, ⟨17, _⟩ => ⟨S50000x1, .i32⟩
  | .hbm, ⟨18, _⟩ => ⟨S50000x1, .i1⟩
  | .hbm, ⟨19, _⟩ => ⟨S50000x1, .i1⟩
  | .hbm, ⟨20, _⟩ => ⟨S_, .i1⟩
  | .hbm, ⟨21, _⟩ => ⟨S50000, .i1⟩
  | .hbm, ⟨22, _⟩ => ⟨S50000x128, .f32⟩
  | .hbm, ⟨23, _⟩ => ⟨S50000x128, .i1⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S50000, .i32⟩
  | .hbm, ⟨36, _⟩ => ⟨S50000, .i1⟩
  | .hbm, ⟨37, _⟩ => ⟨S_, .i32⟩
  | .hbm, ⟨38, _⟩ => ⟨S50000, .i32⟩
  | .hbm, ⟨39, _⟩ => ⟨S50000, .i32⟩
  | .hbm, ⟨40, _⟩ => ⟨S50000, .i32⟩
  | .hbm, ⟨41, _⟩ => ⟨S50000x1, .i32⟩
  | .hbm, ⟨42, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call1_cst : Ref sig .tc := ⟨.hbm, 31, rfl⟩
abbrev main_call1_v0 : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_c_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩

abbrev nD : Nat := 1
abbrev τ : Topo := Topo.v7x

variable {F : FTy → Type} [FloatOps F]
-- ==== Proof.Slots.lean ====
/-
  A two-slot buffer used through squeezed windows: what a window reads after the slots have been filled.

  The kernel keeps two slots in one scratch array. A copy fills one slot through a window whose leading axis of extent one
  has been dropped; the body then loads the slot with that axis kept. These lemmas say what such a load, and the reverse
  copy out of a slot that was stored with the axis kept, read. They hold for any memref and any rectangles.
-/
module

public import Idealize.ShloMosaic.Lib.Pipeline.FrameBody
public import Idealize.ShloMosaic.Lib.Pipeline.Value
public import Idealize.ShloMosaic.Lib.Tactic
public import Idealize.ShloMosaic.Lib.ViewIndex

@[expose] public section

namespace Cert.Slots

open Idealize.ShloMosaic

variable {sig : RefSig} {κ : Kind} {sp : Space} {s s' : Shape} {e : EltTy} {Val : EltTy → Type}

/-- A load of a slot that a copy has just filled through its squeezed window reads the copied block, with the dropped
    axis put back. -/
theorem load_filled (M : Memref sig κ sp s e) (r : Rect s) (hr : ∀ a, r.stride a = 1) (hq : r.shape.Squeezes s')
    (hc : s'.ShapeCasts r.shape) (f : M.view.ty.Contents Val) (d : s'.Idx → Val e) :
    M.view.readAt Val r.toLoadRect (((M.slice r hr).squeeze s' hq).view.write Val f d Finset.univ) = shapeCast r.shape d hc := by
  have h : M.view.readAt Val r.toLoadRect (((M.slice r hr).squeeze s' hq).view.write Val f d Finset.univ)
      = (M.slice r hr).view.read Val (((M.slice r hr).view.reshape s' hq.numel_eq).write Val f d Finset.univ) := rfl
  rw [h, View.write_reshape_univ, View.read_write_univ]
  funext x
  show d _ = d _
  exact congrArg d (by rw [Shape.reshapeEquiv_symm])

/-- A load of a slot is not changed by a copy that fills another slot. -/
theorem load_other (M : Memref sig κ sp s e) (r r' : Rect s) (hr' : ∀ a, r'.stride a = 1) (hq : r'.shape.Squeezes s')
    (hd : Disjoint r.set r'.set) (f : M.view.ty.Contents Val) (d : s'.Idx → Val e) :
    M.view.readAt Val r.toLoadRect (((M.slice r' hr').squeeze s' hq).view.write Val f d Finset.univ)
      = M.view.readAt Val r.toLoadRect f := by
  have h : M.view.readAt Val r.toLoadRect (((M.slice r' hr').squeeze s' hq).view.write Val f d Finset.univ)
      = (M.view.slice r).read Val (((M.view.slice r').reshape s' hq.numel_eq).write Val f d Finset.univ) := rfl
  rw [h, View.write_reshape_univ]
  refine View.read_slice_write_slice_of_disjoint r r' f _ Finset.univ ?_
  rw [View.setOn_univ]
  exact View.disjoint_slice hd

/-- A copy out of the slot stored last reads the stored block, its leading axis dropped. -/
theorem copy_stored (M : Memref sig κ sp s e) (r : Rect s) (hr : ∀ a, r.stride a = 1) (hq : r.shape.Squeezes s')
    (hc : r.shape.ShapeCasts s') (f : M.view.ty.Contents Val) (p : r.shape.Idx → Val e) (L : List (View.Piece Val s e)) :
    ((M.slice r hr).squeeze s' hq).view.read Val (M.view.writes Val f (⟨r, p⟩ :: L)) = shapeCast s' p hc := by
  rw [Memref.read_squeeze_slice M r hr hq hc, View.writes_cons]
  exact congrArg (fun q => shapeCast s' q hc) (View.read_write_univ (v := M.view.slice r) (M.view.writes Val f L) p)

/-- A whole matrix loaded at offset zero is what the memref holds. -/
theorem load_whole (v : View sig κ sp s e) {off : Fin s.rank → Nat} (h0 : off = fun _ => 0) (inb : ∀ a, off a + s.size a ≤ s.size a)
    (f : v.ty.Contents Val) : v.readAt Val (Rect.unit (s := s) off s.size inb).toLoadRect f = v.read Val f := by
  subst h0
  funext x
  show v.read Val f _ = v.read Val f _
  refine congrArg (v.read Val f) (funext fun a => Fin.ext ?_)
  show 0 + 1 * (x a).val = (x a).val
  omega

/-- Lists of written pieces agree when their newest payloads and their older pieces agree. -/
theorem cons_eq (r : Rect s) {p q : r.shape.Idx → Val e} {L L' : List (View.Piece Val s e)} (hp : p = q) (hL : L = L') :
    ((⟨r, p⟩ : View.Piece Val s e) :: L) = ⟨r, q⟩ :: L' := by subst hp; subst hL; rfl

end Cert.Slots

end
-- ==== Proof.KernelIdealBody.lean ====
/-
  One run of the kernel's body.

  The body copies the rows 50000 to 99999 of the node table straight to the result in four pieces, and sends the rows
  below 50000 through a two-slot pipeline in ten blocks of 5000 rows: a block is copied in, multiplied by the weights,
  shifted by the bias, cut off below zero and copied out, while the next block is already on its way in.
  `body_run` says what the result holds afterwards: fourteen written pieces, each named by the rows that it came from.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Slots
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Slots

variable {F : FTy → Type} [FloatOps F]

local notation "𝕄" => MT nD τ sig Unit (Elt F) ℕ (Pipeline.UD sig nD τ) ℕ

/-- The node table, the result and the two scratch arrays of two slots each. -/
abbrev nodes : Memref sig .tc .hbm S100000x128 .f32 := Memref.whole main_arg0
abbrev result : Memref sig .tc .hbm S100000x128 .f32 := Memref.whole main_v1
abbrev inBuf : Memref sig .tc .vmem S2x5000x128 .f32 := Memref.whole cc0_scratch0
abbrev outBuf : Memref sig .tc .vmem S2x5000x128 .f32 := Memref.whole cc0_scratch1

/-- What a memref's array holds on a core, and that the core holds the whole array at these contents. -/
abbrev Held (c : Dev nD) {sp : Space} {S : Shape} {e : EltTy} (M : Memref sig .tc sp S e) : Type :=
  Buf (Elt F) (M.view.loc (c : Thread nD τ))
abbrev holds (c : Dev nD) {sp : Space} {S : Shape} {e : EltTy} (M : Memref sig .tc sp S e) (f : Held (F := F) c M) : sProp 𝕄 :=
  M.view.loc (c : Thread nD τ) ↦{fullShare} f

/-- A block of rows of the node table, from row `k` on. -/
abbrev rows {c : Dev nD} (x : Held (F := F) c nodes) (k : ℕ) (inb : ∀ a, (![k, 0] : Fin 2 → ℕ) a + S5000x128.size a ≤ S100000x128.size a) :
    Vec F S5000x128 .f32 :=
  (nodes.slice (Rect.unit (s := S100000x128) ![k, 0] S5000x128.size inb) (fun _ => rfl)).view.read (Elt F) x
abbrev tailRows {c : Dev nD} (x : Held (F := F) c nodes) (k : ℕ) (inb : ∀ a, (![k, 0] : Fin 2 → ℕ) a + S12500x128.size a ≤ S100000x128.size a) :
    Vec F S12500x128 .f32 :=
  (nodes.slice (Rect.unit (s := S100000x128) ![k, 0] S12500x128.size inb) (fun _ => rfl)).view.read (Elt F) x

/-- What the body computes from one block of rows: the product with the weights, the bias added to every row, and the
    larger of that and zero. -/
def dense (xs : Vec F S5000x128 .f32) (w : Vec F S128x128 .f32) (b : Vec F S1x128 .f32) : FVec F S5000x128 .f32 :=
  maximumf (addf (matmul dot_S5000x128_S128x128_S5000x128_1_0_0_1_n_n none xs w (constant S5000x128 .f32 0x00000000#32))
      (broadcastTo S5000x128 b broadcasts_S1x128_S5000x128))
    (broadcast S5000x128 (Scalar.ofBits .f32 0x00000000#32))

/-- The pieces that the body writes into the result, the last one first. -/
def pieces {c : Dev nD} (x : Held (F := F) c nodes) (w : Vec F S128x128 .f32) (b : Vec F S1x128 .f32) :
    List (View.Piece (Elt F) S100000x128 .f32) :=
  [⟨Rect.unit ![45000, 0] S5000x128.size inb_S100000x128_S5000x128_45000_0, dense (rows x 45000 inb_S100000x128_S5000x128_45000_0) w b⟩,
   ⟨Rect.unit ![40000, 0] S5000x128.size inb_S100000x128_S5000x128_40000_0, dense (rows x 40000 inb_S100000x128_S5000x128_40000_0) w b⟩,
   ⟨Rect.unit ![35000, 0] S5000x128.size inb_S100000x128_S5000x128_35000_0, dense (rows x 35000 inb_S100000x128_S5000x128_35000_0) w b⟩,
   ⟨Rect.unit ![30000, 0] S5000x128.size inb_S100000x128_S5000x128_30000_0, dense (rows x 30000 inb_S100000x128_S5000x128_30000_0) w b⟩,
   ⟨Rect.unit ![25000, 0] S5000x128.size inb_S100000x128_S5000x128_25000_0, dense (rows x 25000 inb_S100000x128_S5000x128_25000_0) w b⟩,
   ⟨Rect.unit ![20000, 0] S5000x128.size inb_S100000x128_S5000x128_20000_0, dense (rows x 20000 inb_S100000x128_S5000x128_20000_0) w b⟩,
   ⟨Rect.unit ![15000, 0] S5000x128.size inb_S100000x128_S5000x128_15000_0, dense (rows x 15000 inb_S100000x128_S5000x128_15000_0) w b⟩,
   ⟨Rect.unit ![10000, 0] S5000x128.size inb_S100000x128_S5000x128_10000_0, dense (rows x 10000 inb_S100000x128_S5000x128_10000_0) w b⟩,
   ⟨Rect.unit ![5000, 0] S5000x128.size inb_S100000x128_S5000x128_5000_0, dense (rows x 5000 inb_S100000x128_S5000x128_5000_0) w b⟩,
   ⟨Rect.unit ![0, 0] S5000x128.size inb_S100000x128_S5000x128_0_0, dense (rows x 0 inb_S100000x128_S5000x128_0_0) w b⟩,
   ⟨Rect.unit ![87500, 0] S12500x128.size inb_S100000x128_S12500x128_87500_0, tailRows x 87500 inb_S100000x128_S12500x128_87500_0⟩,
   ⟨Rect.unit ![75000, 0] S12500x128.size inb_S100000x128_S12500x128_75000_0, tailRows x 75000 inb_S100000x128_S12500x128_75000_0⟩,
   ⟨Rect.unit ![62500, 0] S12500x128.size inb_S100000x128_S12500x128_62500_0, tailRows x 62500 inb_S100000x128_S12500x128_62500_0⟩,
   ⟨Rect.unit ![50000, 0] S12500x128.size inb_S100000x128_S12500x128_50000_0, tailRows x 50000 inb_S100000x128_S12500x128_50000_0⟩]

/-- The slots of a two-slot array, and that they have no element in common. -/
abbrev slot0 : Rect S2x5000x128 := Rect.unit ![0, 0, 0] S1x5000x128.size inb_S2x5000x128_S1x5000x128_0_0_0
abbrev slot1 : Rect S2x5000x128 := Rect.unit ![1, 0, 0] S1x5000x128.size inb_S2x5000x128_S1x5000x128_1_0_0
theorem slots_apart (y : S2x5000x128.Idx) (h0 : y ∈ slot0.set) : y ∉ slot1.set := fun h1 => by
  obtain ⟨j, hj, e⟩ := slot0.mem_set.mp h0 0
  obtain ⟨k, hk, e'⟩ := slot1.mem_set.mp h1 0
  have e0 : (y 0).val = 0 + 1 * j := e
  have e1 : (y 0).val = 1 + 1 * k := e'
  have hj' : j < 1 := hj
  omega
theorem disjoint01 : Disjoint slot0.set slot1.set := Finset.disjoint_left.mpr slots_apart
theorem disjoint10 : Disjoint slot1.set slot0.set := disjoint01.symm

/-- The block stored for loaded rows `xs` is the dense block of these rows, in every form that the program prints it in:
    in one expression, or cut in two. -/
theorem stored_eq (xs : Vec F S5000x128 .f32) (xv : Vec F S1x5000x128 .f32) (w : Vec F S128x128 .f32) (b : Vec F S1x128 .f32)
    (hx : xv = shapeCast S1x5000x128 xs shapeCasts_S5000x128_S1x5000x128) :
    shapeCast S5000x128 (k0_pay1 xv w b) shapeCasts_S1x5000x128_S5000x128 = dense xs w b := by
  subst hx
  unfold k0_pay1 dense
  simp only [shapeCast_shapeCast, shapeCast_self]

/-- Weights and bias loaded whole are what their arrays hold, so the dense block may be written over these. -/
theorem dense_loaded (xs : Vec F S5000x128 .f32) (A : Memref sig .tc .vmem S128x128 .f32) (B : Memref sig .tc .vmem S1x128 .f32)
    (f : A.view.ty.Contents (Elt F)) (g : B.view.ty.Contents (Elt F)) (w : Vec F S128x128 .f32) (b : Vec F S1x128 .f32)
    (hf : A.view.read (Elt F) f = w) (hg : B.view.read (Elt F) g = b) :
    dense xs (A.view.readAt (Elt F) (Rect.unit (s := S128x128) ![0, 0] S128x128.size inb_S128x128_S128x128_0_0).toLoadRect f)
      (B.view.readAt (Elt F) (Rect.unit (s := S1x128) ![0, 0] S1x128.size inb_S1x128_S1x128_0_0).toLoadRect g) = dense xs w b := by
  have h0 : (![0, 0] : Fin 2 → ℕ) = fun _ => 0 := by decide
  rw [load_whole (s := S128x128) A.view h0 inb_S128x128_S128x128_0_0 f, load_whole (s := S1x128) B.view h0 inb_S1x128_S1x128_0_0 g, hf, hg]

/-- What is copied out of slot 0 after a block has been stored there, when the block was computed from loaded rows `xs`. -/
theorem block_out0 {A : Memref sig .tc .vmem S128x128 .f32} {B : Memref sig .tc .vmem S1x128 .f32}
    {f : A.view.ty.Contents (Elt F)} {g : B.view.ty.Contents (Elt F)} {w : Vec F S128x128 .f32} {b : Vec F S1x128 .f32}
    (hf : A.view.read (Elt F) f = w) (hg : B.view.read (Elt F) g = b) (o : outBuf.view.ty.Contents (Elt F))
    (L : List (View.Piece (Elt F) S2x5000x128 .f32)) (xs : Vec F S5000x128 .f32) (xv : Vec F S1x5000x128 .f32)
    (hx : xv = shapeCast S1x5000x128 xs shapeCasts_S5000x128_S1x5000x128) :
    ReadAs.same.apply (((outBuf.slice slot0 (fun _ => rfl)).squeeze S5000x128 squeezes_S1x5000x128_S5000x128).view.read (Elt F)
      (outBuf.view.writes (Elt F) o (⟨slot0, k0_pay1 xv
        (A.view.readAt (Elt F) (Rect.unit (s := S128x128) ![0, 0] S128x128.size inb_S128x128_S128x128_0_0).toLoadRect f)
        (B.view.readAt (Elt F) (Rect.unit (s := S1x128) ![0, 0] S1x128.size inb_S1x128_S1x128_0_0).toLoadRect g)⟩ :: L))) = dense xs w b :=
  (copy_stored outBuf slot0 (fun _ => rfl) squeezes_S1x5000x128_S5000x128 shapeCasts_S1x5000x128_S5000x128 o _ L).trans
    ((stored_eq xs xv _ _ hx).trans (dense_loaded xs A B f g w b hf hg))

/-- Rows that a copy has brought into slot 0, loaded at once. -/
theorem rows_in0 (f : inBuf.view.ty.Contents (Elt F)) (xs : Vec F S5000x128 .f32) :
    inBuf.view.readAt (Elt F) slot0.toLoadRect
      (((inBuf.slice slot0 (fun _ => rfl)).squeeze S5000x128 squeezes_S1x5000x128_S5000x128).view.write (Elt F) f (ReadAs.same.apply xs) Finset.univ)
      = shapeCast S1x5000x128 xs shapeCasts_S5000x128_S1x5000x128 :=
  load_filled inBuf slot0 (fun _ => rfl) squeezes_S1x5000x128_S5000x128 shapeCasts_S5000x128_S1x5000x128 f xs

/-- Rows that a copy has brought into slot 0, loaded after the next copy has filled slot 1. -/
theorem rows_kept0 (f : inBuf.view.ty.Contents (Elt F)) (xs ys : Vec F S5000x128 .f32) :
    inBuf.view.readAt (Elt F) slot0.toLoadRect
      (((inBuf.slice slot1 (fun _ => rfl)).squeeze S5000x128 squeezes_S1x5000x128_S5000x128).view.write (Elt F)
        (((inBuf.slice slot0 (fun _ => rfl)).squeeze S5000x128 squeezes_S1x5000x128_S5000x128).view.write (Elt F) f (ReadAs.same.apply xs) Finset.univ)
        ys Finset.univ)
      = shapeCast S1x5000x128 xs shapeCasts_S5000x128_S1x5000x128 :=
  (load_other inBuf slot0 slot1 (fun _ => rfl) squeezes_S1x5000x128_S5000x128 disjoint01 _ ys).trans (rows_in0 f xs)

/-- What is copied out of slot 1 after a block has been stored there, when the block was computed from loaded rows `xs`. -/
theorem block_out1 {A : Memref sig .tc .vmem S128x128 .f32} {B : Memref sig .tc .vmem S1x128 .f32}
    {f : A.view.ty.Contents (Elt F)} {g : B.view.ty.Contents (Elt F)} {w : Vec F S128x128 .f32} {b : Vec F S1x128 .f32}
    (hf : A.view.read (Elt F) f = w) (hg : B.view.read (Elt F) g = b) (o : outBuf.view.ty.Contents (Elt F))
    (L : List (View.Piece (Elt F) S2x5000x128 .f32)) (xs : Vec F S5000x128 .f32) (xv : Vec F S1x5000x128 .f32)
    (hx : xv = shapeCast S1x5000x128 xs shapeCasts_S5000x128_S1x5000x128) :
    ReadAs.same.apply (((outBuf.slice slot1 (fun _ => rfl)).squeeze S5000x128 squeezes_S1x5000x128_S5000x128).view.read (Elt F)
      (outBuf.view.writes (Elt F) o (⟨slot1, k0_pay1 xv
        (A.view.readAt (Elt F) (Rect.unit (s := S128x128) ![0, 0] S128x128.size inb_S128x128_S128x128_0_0).toLoadRect f)
        (B.view.readAt (Elt F) (Rect.unit (s := S1x128) ![0, 0] S1x128.size inb_S1x128_S1x128_0_0).toLoadRect g)⟩ :: L))) = dense xs w b :=
  (copy_stored outBuf slot1 (fun _ => rfl) squeezes_S1x5000x128_S5000x128 shapeCasts_S1x5000x128_S5000x128 o _ L).trans
    ((stored_eq xs xv _ _ hx).trans (dense_loaded xs A B f g w b hf hg))

/-- Rows that a copy has brought into slot 1, loaded at once. -/
theorem rows_in1 (f : inBuf.view.ty.Contents (Elt F)) (xs : Vec F S5000x128 .f32) :
    inBuf.view.readAt (Elt F) slot1.toLoadRect
      (((inBuf.slice slot1 (fun _ => rfl)).squeeze S5000x128 squeezes_S1x5000x128_S5000x128).view.write (Elt F) f (ReadAs.same.apply xs) Finset.univ)
      = shapeCast S1x5000x128 xs shapeCasts_S5000x128_S1x5000x128 :=
  load_filled inBuf slot1 (fun _ => rfl) squeezes_S1x5000x128_S5000x128 shapeCasts_S5000x128_S1x5000x128 f xs

/-- Rows that a copy has brought into slot 1, loaded after the next copy has filled slot 0. -/
theorem rows_kept1 (f : inBuf.view.ty.Contents (Elt F)) (xs ys : Vec F S5000x128 .f32) :
    inBuf.view.readAt (Elt F) slot1.toLoadRect
      (((inBuf.slice slot0 (fun _ => rfl)).squeeze S5000x128 squeezes_S1x5000x128_S5000x128).view.write (Elt F)
        (((inBuf.slice slot1 (fun _ => rfl)).squeeze S5000x128 squeezes_S1x5000x128_S5000x128).view.write (Elt F) f (ReadAs.same.apply xs) Finset.univ)
        ys Finset.univ)
      = shapeCast S1x5000x128 xs shapeCasts_S5000x128_S1x5000x128 :=
  (load_other inBuf slot1 slot0 (fun _ => rfl) squeezes_S1x5000x128_S5000x128 disjoint10 _ ys).trans (rows_in1 f xs)

set_option sl_exec.dmaWindow true in
/-- From the node table, the weights, the bias, the result and both scratch arrays in hand, with every counter at zero, the
    body runs to its end. It gives back the table, the weights and the bias as they were, the scratch arrays at some
    contents, every counter at zero, and the result overwritten by `pieces`. -/
theorem body_run (c : Dev nD) (arg1 : Memref sig .tc .vmem S128x128 .f32) (harg1 : arg1.IsWhole)
    (arg2 : Memref sig .tc .vmem S1x128 .f32) (harg2 : arg2.IsWhole)
    (x : Held (F := F) c nodes) (w : Vec F S128x128 .f32) (b : Vec F S1x128 .f32) (o : Held (F := F) c result)
    (W : Waits sig Unit) (K : PUnit → sProp 𝕄) :
        iprop(owns (c : Thread nD τ) arg1 fullShare w ∗ owns (c : Thread nD τ) arg2 fullShare b
            ∗ (∃ f, holds c inBuf f) ∗ (∃ f, holds c outBuf f)
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ holds c nodes x ∗ holds c result o
            ∗ owes (c : Thread nD τ) 0 W
            ∗ (iprop(owns (c : Thread nD τ) arg1 fullShare w ∗ owns (c : Thread nD τ) arg2 fullShare b
                ∗ (∃ f, holds c inBuf f) ∗ (∃ f, holds c outBuf f)
                ∗ semVal ((c : Thread nD τ), SemLoc.dma 2) 0 ∗ semVal ((c : Thread nD τ), SemLoc.dma 3) 0
                ∗ semVal ((c : Thread nD τ), SemLoc.dma 4) 0 ∗ semVal ((c : Thread nD τ), SemLoc.dma 5) 0
                ∗ semVal ((c : Thread nD τ), SemLoc.dma 6) 0 ∗ semVal ((c : Thread nD τ), SemLoc.dma 7) 0
                ∗ semVal ((c : Thread nD τ), SemLoc.dma 8) 0 ∗ semVal ((c : Thread nD τ), SemLoc.dma 9) 0
                ∗ holds c nodes x ∗ holds c result (result.view.writes (Elt F) o (pieces x w b))
                ∗ (∃ W', owes (c : Thread nD τ) 0 W')) -∗ K ⟨⟩))
          ⊢ wp frame (wpE (defs₀ (F := F)) Variants.none c none) Set.univ
              (cc0__body nodes (Memref.isWhole_whole _) arg1 harg1 arg2 harg2 result (Memref.isWhole_whole _)
                inBuf (Memref.isWhole_whole _) outBuf (Memref.isWhole_whole _) cc0_scratch2 cc0_scratch3 cc0_scratch4) K := by
  simp only [cc0__body_eq_skeleton]; unfold cc0__body_skel
  unfold owns
  iintro ⟨⟨%fw, %hw, H1⟩, ⟨%fb, %hb, H2⟩, ⟨%f0, Hi⟩, ⟨%f1, Ho⟩, Hs2, Hs3, Hs4, Hs5, Hs6, Hs7, Hs8, Hs9, Hx, Hr, HW, Hk⟩
  sl_exec
  sl_step
  iapply Hk
  isplitl [H1]
  · iexists fw; isplitr; · ipureintro; exact hw
    iexact H1
  isplitl [H2]
  · iexists fb; isplitr; · ipureintro; exact hb
    iexact H2
  isplitl [Hi]; · iexists _; iexact Hi
  isplitl [Ho]; · iexists _; iexact Ho
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hx]; · iexact Hx
  isplitl [Hr]
  · refine Entails.of_eq (congrArg (fun L => holds c result (result.view.writes (Elt F) o L)) ?_)
    unfold pieces
    refine cons_eq _ (block_out1 hw hb _ _ _ _ (rows_in1 _ _)) ?_
    refine cons_eq _ (block_out0 hw hb _ _ _ _ (rows_kept0 _ _ _)) ?_
    refine cons_eq _ (block_out1 hw hb _ _ _ _ (rows_kept1 _ _ _)) ?_
    refine cons_eq _ (block_out0 hw hb _ _ _ _ (rows_kept0 _ _ _)) ?_
    refine cons_eq _ (block_out1 hw hb _ _ _ _ (rows_kept1 _ _ _)) ?_
    refine cons_eq _ (block_out0 hw hb _ _ _ _ (rows_kept0 _ _ _)) ?_
    refine cons_eq _ (block_out1 hw hb _ _ _ _ (rows_kept1 _ _ _)) ?_
    refine cons_eq _ (block_out0 hw hb _ _ _ _ (rows_kept0 _ _ _)) ?_
    refine cons_eq _ (block_out1 hw hb _ _ _ _ (rows_kept1 _ _ _)) ?_
    refine cons_eq _ (block_out0 hw hb _ _ _ _ (rows_kept0 _ _ _)) ?_
    rfl
  iexists _; iexact HW

end Cert.KernelIdeal.Hand

end
-- ==== Proof.KernelIdealRun.lean ====
/-
  The whole run of the program: its host line, its one launch, and what every array holds at the end.

  `run_main` starts at any memory with every counter at zero. It says that the program ends, that every counter is at zero
  again, that the arrays the launch does not write are as the launch found them, and that the result is `final`.
  `frame` and `run_value` read the arguments and the result off it.
-/
module

public import proofs.«01_k».proof.Proof.KernelIdealBody
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The array that the body's transfers read, and the one that they write. -/
def H0 : Finset (Ref sig .tc) := {main_arg0}
def R0 : Finset (Ref sig .tc) := {main_v1}
theorem H0_sub : H0 ⊆ Pipeline.restRefs sig spec0 := by decide
theorem R0_sub : R0 ⊆ Pipeline.restRefs sig spec0 \ H0 := by decide

/-- The program up to its launch leaves every array as `V` says. -/
theorem hmain_ud (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's eight own counters: two for the copies in, two for the copies out, four for the tail. -/
abbrev osem0 : Fin 8 → SemLoc sig := fun j =>
  (![SemLoc.dma 2, SemLoc.dma 3, SemLoc.dma 4, SemLoc.dma 5, SemLoc.dma 6, SemLoc.dma 7, SemLoc.dma 8, SemLoc.dma 9] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0
          ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0) := by
  rw [Pipeline.ownSems0_eq_of_list c osem0 [0, 1, 2, 3, 4, 5, 6, 7] (by decide) (by decide)]; rfl

/-- The weights and the bias as the launch stages them. -/
abbrev weights (c : Dev nD) : Vec F S128x128 .f32 := iblk m c 0 t0_0
abbrev bias (c : Dev nD) : Vec F S1x128 .f32 := iblk m c 1 t0_0

/-- What the result holds after the launch. -/
def final (c : Dev nD) : Held (F := F) c result :=
  result.view.writes (Elt F) (V m c main_v1) (pieces (V m c main_arg0) (weights m c) (bias m c))

/-- Every array after the launch: the result at `final`, any other as the launch found it. -/
def G (c : Dev nD) (b : Ref sig .tc) : Buf (Elt F) ((c : Thread nD τ).loc b) := Function.update (V m c) main_v1 (final m c) b

/-- The invariant's ends in full: the scratch arrays, the counters at zero, the node table, and the result at `Y`. -/
theorem phi_eq (Y : (c : Dev nD) → (b : Ref sig .tc) → Buf (Elt F) ((c : Thread nD τ).loc b)) (c : Dev nD) :
    (Pipeline.ΦDRG osem0 spec0 H0 R0 (V m) Y c : sProp 𝕄)
      = iprop(iprop((∃ f, holds c inBuf f) ∗ (∃ f, holds c outBuf f))
          ∗ (∃ r, prngReg c r)
          ∗ iprop(semVal ((c : Thread nD τ), SemLoc.dma 2) 0 ∗ semVal ((c : Thread nD τ), SemLoc.dma 3) 0
              ∗ semVal ((c : Thread nD τ), SemLoc.dma 4) 0 ∗ semVal ((c : Thread nD τ), SemLoc.dma 5) 0
              ∗ semVal ((c : Thread nD τ), SemLoc.dma 6) 0 ∗ semVal ((c : Thread nD τ), SemLoc.dma 7) 0
              ∗ semVal ((c : Thread nD τ), SemLoc.dma 8) 0 ∗ semVal ((c : Thread nD τ), SemLoc.dma 9) 0)
          ∗ holds c nodes (V m c main_arg0) ∗ holds c result (Y c main_v1)) := by
  rw [Pipeline.ΦDRG_eq, scopedRest0_eq, ownSems00_eq]
  unfold Pipeline.routed H0 R0
  rw [BI.bigSep_singleton, BI.bigSep_singleton]

/-- The launch's proof data on one core: before its one point every array is as the launch found it, after it the result is
    final; the staged weights and bias are left in place. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ p := Pipeline.ΦDRG osem0 spec0 H0 R0 (V m) (if p.val = 0 then V m else G m) c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]

/-- Each staging buffer holds its block when the body starts. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- What the body finds and what it must leave at the launch's point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- At the launch's point the body does what its data promise. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  simp only [before0, before1]
  rw [show (dats m 0 c).Φ (t0_0 : Fin cfg0.N).castSucc = Pipeline.ΦDRG osem0 spec0 H0 R0 (V m) (V m) c from rfl,
    show (dats m 0 c).Φ (t0_0 : Fin cfg0.N).succ = Pipeline.ΦDRG osem0 spec0 H0 R0 (V m) (G m) c from rfl, phi_eq, phi_eq,
    show G m c main_v1 = final m c from Function.update_self ..,
    after0, after1]
  unfold Dat.owesAt Pipeline.owesWithin final
  rw [show (dats m 0 c).owed (t0_0 : Fin cfg0.N).castSucc = 0 from rfl, show (dats m 0 c).owed (t0_0 : Fin cfg0.N).succ = 0 from rfl]
  iintro ⟨⟨⟨Hi, Ho⟩, Hg, ⟨Hs2, Hs3, Hs4, Hs5, Hs6, Hs7, Hs8, Hs9⟩, Hx, Hr⟩, ⟨%W, -, HW⟩, ⟨%d0, H0⟩, ⟨%d1, H1⟩⟩
  iapply (body_run c _ _ _ _ (V m c main_arg0) (weights m c) (bias m c) (V m c main_v1) W _)
  isplitl [H0]; · iexact H0
  isplitl [H1]; · iexact H1
  isplitl [Hi]; · iexact Hi
  isplitl [Ho]; · iexact Ho
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hx]; · iexact Hx
  isplitl [Hr]; · iexact Hr
  isplitl [HW]; · iexact HW
  iintro ⟨H0, H1, Hi, Ho, Hs2, Hs3, Hs4, Hs5, Hs6, Hs7, Hs8, Hs9, Hx, Hr, ⟨%W', HW'⟩⟩
  isplitl [Hi Ho Hg Hs2 Hs3 Hs4 Hs5 Hs6 Hs7 Hs8 Hs9 Hx Hr]
  · isplitl [Hi Ho]
    · isplitl [Hi]; · iexact Hi
      iexact Ho
    isplitl [Hg]; · iexact Hg
    isplitl [Hs2 Hs3 Hs4 Hs5 Hs6 Hs7 Hs8 Hs9]
    · isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    isplitl [Hx]; · iexact Hx
    iexact Hr
  isplitl [HW']
  · iexists W'; isplitr; · ipureintro; exact fun _ _ => Or.inl trivial
    iexact HW'
  isplitl [H0]; · iexact H0
  iexact H1

/-- The body table's row for the launch is the body at the launch's operands. -/
theorem defs₀_row (t : Fin cfg0.N) :
    defs₀ (F := F) .tc cfg0.body (cfg0.bodyArgs t (cfg0.slots t)) = bodyAt0 t := by
  unfold defs₀; rw [Defs.onTc_tc]

/-- `sound_body` in the form that the launch asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to its end from any memory; afterwards the result is `final`, the other arrays are as the launch found
    them, and every counter is at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain_ud m Variants.none) (hA := A_eq m) (G := G m)
    (hin := fun _ => .rfl) (hout := fun _ => .rfl)

/-- The four arguments after the run are what they were before it. -/
theorem args_kept {r : PUnit × MemSt nD τ sig (Elt F)} (h : Pipeline.FramePostRG cfgs (dats m) 0 R0 (V m) (G m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h.toR c).2 main_arg0 (Finset.mem_sdiff.mpr ⟨Pipeline.mem_restRefs_of main_arg0 (by decide) (by decide), by decide⟩)).trans (V_main_arg0 m c),
    ((h.toR c).2 main_arg1 (Finset.mem_sdiff.mpr ⟨Pipeline.mem_restRefs_of main_arg1 (by decide) (by decide), by decide⟩)).trans (V_main_arg1 m c),
    ((h.toR c).1 0).trans (((dats m 0 c).arrAt_in 0 rfl _).trans ((A_eq m c 0).trans (V_main_arg2 m c))),
    ((h.toR c).2 main_arg3 (Finset.mem_sdiff.mpr ⟨Pipeline.mem_restRefs_of main_arg3 (by decide) (by decide), by decide⟩)).trans (V_main_arg3 m c)⟩

/-- The program ends without a fault, with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m h.1, h.2⟩) (run_main m ρ)

/-- The program ends with its result at `final` and its arguments unchanged. -/
theorem run_value : θ_run defs (onTc (τ := τ) (main (F := F))) ⟨m, fun _ => 0, ρ⟩ (fun r => ∀ c : Dev nD,
      r.2.mem ((c.tc : Thread nD τ).loc main_v1) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.written c (show main_v1 ∈ R0 by decide)).trans (Function.update_self ..), args_kept m h.1 c⟩)
    (run_main m ρ)

end Cert.KernelIdeal.Hand

end
-- ==== Proof.Update.lean ====
/-
  The array that both programs compute: the rows before row 50000 are updated, the others are kept.
-/
module

public import Idealize.ShloMosaic.PureOps
public import Idealize.ShloMosaic.PureOps.Ideal
public import Idealize.ShloMosaic.Lib.Pointwise

@[expose] public section

noncomputable section

namespace Cert.Update

open Idealize.ShloMosaic

/-- One element of an updated row: the row times the weights, the bias added, and the larger of that and zero. -/
def updated (x : Vec Ideal ⟨2, ![100000, 128]⟩ .f32) (w : Vec Ideal ⟨2, ![128, 128]⟩ .f32) (b : Vec Ideal ⟨1, ![128]⟩ .f32)
    (r : Fin 100000) (k : Fin 128) : EReal :=
  max ((∑ j : Fin 128, (x (ix2 r j) : EReal) * (w (ix2 j k) : EReal)) + (b (ix1 k) : EReal)) 0

/-- The whole array: rows 0 to 49999 updated, rows 50000 to 99999 kept. -/
def out (x : Vec Ideal ⟨2, ![100000, 128]⟩ .f32) (w : Vec Ideal ⟨2, ![128, 128]⟩ .f32) (b : Vec Ideal ⟨1, ![128]⟩ .f32) :
    Vec Ideal ⟨2, ![100000, 128]⟩ .f32 :=
  fun i => if (i 0).val < 50000 then updated x w b (i 0) (i 1) else x i

/-- A row before row 50000 is the updated one, a later row the old one. -/
theorem out_updated (x : Vec Ideal ⟨2, ![100000, 128]⟩ .f32) (w : Vec Ideal ⟨2, ![128, 128]⟩ .f32) (b : Vec Ideal ⟨1, ![128]⟩ .f32)
    (r : Fin 100000) (k : Fin 128) (h : r.val < 50000) : out x w b (ix2 r k) = updated x w b r k := if_pos h
theorem out_kept (x : Vec Ideal ⟨2, ![100000, 128]⟩ .f32) (w : Vec Ideal ⟨2, ![128, 128]⟩ .f32) (b : Vec Ideal ⟨1, ![128]⟩ .f32)
    (r : Fin 100000) (k : Fin 128) (h : 50000 ≤ r.val) : out x w b (ix2 r k) = x (ix2 r k) := if_neg (Nat.not_lt.mpr h)

end Cert.Update

end
-- ==== Proof.KernelIdealValue.lean ====
/-
  What the kernel leaves in its result, as one array: `final` is `Update.out` of the node table, the weights and the bias.
-/
module

public import proofs.«01_k».proof.Proof.KernelIdealRun
public import proofs.«01_k».proof.Proof.Update
public import Idealize.ShloMosaic.Lib.Writes
public import Idealize.ShloMosaic.Lib.Claim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Update

variable (m : (ℓ : Loc nD τ sig) → Buf (Elt Ideal) ℓ)

/-- One element of a dense block. -/
theorem dense_apply (xs : Vec Ideal S5000x128 .f32) (w : Vec Ideal S128x128 .f32) (b : Vec Ideal S1x128 .f32) (r : Fin 5000) (k : Fin 128) :
    dense xs w b (ix2 r k)
      = max ((∑ j : Fin 128, (xs (ix2 r j) : EReal) * (w (ix2 j k) : EReal)) + (b (ix2 0 k) : EReal)) 0 := by
  pointwise [dense]

/-- A place of a block of rows, as a place of the table. -/
theorem emb_rows {n : ℕ} (k : ℕ) (inb : ∀ a, (![k, 0] : Fin 2 → ℕ) a + (⟨2, ![n, 128]⟩ : Shape).size a ≤ S100000x128.size a)
    (r : Fin n) (l : Fin 128) (hk : k + r.val < 100000) :
    (Rect.unit (s := S100000x128) ![k, 0] (⟨2, ![n, 128]⟩ : Shape).size inb).emb (ix2 r l) = (ix2 ⟨k + r.val, hk⟩ l : S100000x128.Idx) := by
  funext a
  apply Fin.ext
  match a with
  | ⟨0, _⟩ => show k + 1 * r.val = k + r.val; omega
  | ⟨1, _⟩ => show 0 + 1 * l.val = l.val; omega

/-- A dense block of rows before row 50000 holds the updated rows. -/
theorem dense_rows {c : Dev nD} (x : Held (F := Ideal) c nodes) (w : Vec Ideal S128x128 .f32) (b : Vec Ideal S1x128 .f32) (v : Vec Ideal S128 .f32)
    (hv : ∀ k : Fin 128, b (ix2 0 k) = v (ix1 k)) (k : ℕ) (inb) (hk : k + 5000 ≤ 50000) (y : S5000x128.Idx) :
    dense (rows x k inb) w b y = out x w v ((Rect.unit (s := S100000x128) ![k, 0] S5000x128.size inb).emb y) := by
  obtain ⟨r, l, rfl⟩ : ∃ r l, y = ix2 r l := ⟨y 0, y 1, eq_ix2 y⟩
  have hr : k + r.val < 100000 := by omega
  rw [dense_apply, emb_rows k inb r l hr, out_updated x w v _ l (by show k + r.val < 50000; omega), hv]
  unfold updated
  have e : ∀ j : Fin 128, rows x k inb (ix2 r j) = x (ix2 ⟨k + r.val, hr⟩ j) := fun j =>
    congrArg x (emb_rows k inb r j hr)
  simp only [e]

/-- A block of rows from row 50000 on holds the old rows. -/
theorem tail_rows {c : Dev nD} (x : Held (F := Ideal) c nodes) (w : Vec Ideal S128x128 .f32) (v : Vec Ideal S128 .f32)
    (k : ℕ) (inb) (hk : 50000 ≤ k) (hk' : k + 12500 ≤ 100000) (y : S12500x128.Idx) :
    tailRows x k inb y = out x w v ((Rect.unit (s := S100000x128) ![k, 0] S12500x128.size inb).emb y) := by
  obtain ⟨r, l, rfl⟩ : ∃ r l, y = ix2 r l := ⟨y 0, y 1, eq_ix2 y⟩
  have hr : k + r.val < 100000 := by omega
  rw [emb_rows k inb r l hr, out_kept x w v _ l (by show 50000 ≤ k + r.val; omega)]
  exact congrArg x (emb_rows k inb r l hr)

/-- Every piece that the body writes is `out` on its own rows. -/
theorem pieces_eq {c : Dev nD} (x : Held (F := Ideal) c nodes) (w : Vec Ideal S128x128 .f32) (b : Vec Ideal S1x128 .f32) (v : Vec Ideal S128 .f32)
    (hv : ∀ k : Fin 128, b (ix2 0 k) = v (ix1 k)) : ∀ p ∈ pieces x w b, ∀ y : p.1.shape.Idx, p.2 y = out x w v (p.1.emb y) := by
  unfold pieces
  simp only [List.forall_mem_cons]
  refine ⟨dense_rows x w b v hv _ _ (by omega), dense_rows x w b v hv _ _ (by omega), dense_rows x w b v hv _ _ (by omega),
    dense_rows x w b v hv _ _ (by omega), dense_rows x w b v hv _ _ (by omega), dense_rows x w b v hv _ _ (by omega),
    dense_rows x w b v hv _ _ (by omega), dense_rows x w b v hv _ _ (by omega), dense_rows x w b v hv _ _ (by omega),
    dense_rows x w b v hv _ _ (by omega), tail_rows x w v _ _ (by omega) (by omega), tail_rows x w v _ _ (by omega) (by omega),
    tail_rows x w v _ _ (by omega) (by omega), tail_rows x w v _ _ (by omega) (by omega), fun _ h => absurd h List.not_mem_nil⟩

/-- A place lies in the block of rows `k` to `k + n - 1` when its row does. -/
theorem mem_rows {n : ℕ} (k : ℕ) (inb : ∀ a, (![k, 0] : Fin 2 → ℕ) a + (⟨2, ![n, 128]⟩ : Shape).size a ≤ S100000x128.size a)
    (r : Fin 100000) (l : Fin 128) (h : k ≤ r.val ∧ r.val < k + n) :
    (ix2 r l : S100000x128.Idx) ∈ (Rect.unit (s := S100000x128) ![k, 0] (⟨2, ![n, 128]⟩ : Shape).size inb).set := by
  rw [Rect.mem_set_unit]
  intro a
  match a with
  | ⟨0, _⟩ => exact h
  | ⟨1, _⟩ => exact ⟨Nat.zero_le _, by show l.val < 0 + 128; omega⟩

/-- The pieces leave no place out. -/
theorem pieces_cover {c : Dev nD} (x : Held (F := Ideal) c nodes) (w : Vec Ideal S128x128 .f32) (b : Vec Ideal S1x128 .f32) (y : S100000x128.Idx) :
    ∃ p ∈ pieces x w b, y ∈ p.1.set := by
  obtain ⟨r, l, rfl⟩ : ∃ r l, y = ix2 r l := ⟨y 0, y 1, eq_ix2 y⟩
  unfold pieces
  simp only [List.exists_mem_cons_iff]
  by_cases h9 : 45000 ≤ r.val ∧ r.val < 50000; · exact .inl (mem_rows 45000 _ r l h9)
  refine .inr ?_
  by_cases h8 : 40000 ≤ r.val ∧ r.val < 45000; · exact .inl (mem_rows 40000 _ r l h8)
  refine .inr ?_
  by_cases h7 : 35000 ≤ r.val ∧ r.val < 40000; · exact .inl (mem_rows 35000 _ r l h7)
  refine .inr ?_
  by_cases h6 : 30000 ≤ r.val ∧ r.val < 35000; · exact .inl (mem_rows 30000 _ r l h6)
  refine .inr ?_
  by_cases h5 : 25000 ≤ r.val ∧ r.val < 30000; · exact .inl (mem_rows 25000 _ r l h5)
  refine .inr ?_
  by_cases h4 : 20000 ≤ r.val ∧ r.val < 25000; · exact .inl (mem_rows 20000 _ r l h4)
  refine .inr ?_
  by_cases h3 : 15000 ≤ r.val ∧ r.val < 20000; · exact .inl (mem_rows 15000 _ r l h3)
  refine .inr ?_
  by_cases h2 : 10000 ≤ r.val ∧ r.val < 15000; · exact .inl (mem_rows 10000 _ r l h2)
  refine .inr ?_
  by_cases h1 : 5000 ≤ r.val ∧ r.val < 10000; · exact .inl (mem_rows 5000 _ r l h1)
  refine .inr ?_
  by_cases h0 : 0 ≤ r.val ∧ r.val < 5000; · exact .inl (mem_rows 0 _ r l ⟨h0.1, by omega⟩)
  refine .inr ?_
  by_cases g3 : 87500 ≤ r.val ∧ r.val < 100000; · exact .inl (mem_rows 87500 _ r l g3)
  refine .inr ?_
  by_cases g2 : 75000 ≤ r.val ∧ r.val < 87500; · exact .inl (mem_rows 75000 _ r l g2)
  refine .inr ?_
  by_cases g1 : 62500 ≤ r.val ∧ r.val < 75000; · exact .inl (mem_rows 62500 _ r l g1)
  refine .inr ?_
  exact .inl (mem_rows 50000 _ r l (by have := r.isLt; omega))

/-- The staged weights are the argument, and the staged bias is the argument as one row. -/
theorem weights_eq (c : Dev nD) : weights m c = m ((c.tc : Thread nD τ).loc main_arg2) := by
  funext i
  obtain ⟨a, b, rfl⟩ : ∃ a b, i = ix2 a b := ⟨i 0, i 1, eq_ix2 i⟩
  show V m c main_arg2 _ = _
  rw [V_main_arg2]
  refine congrArg _ ?_
  funext d
  apply Fin.ext
  match d with
  | ⟨0, _⟩ => show 0 + 1 * a.val = a.val; omega
  | ⟨1, _⟩ => show 0 + 1 * b.val = b.val; omega
theorem bias_eq (c : Dev nD) (k : Fin 128) : bias m c (ix2 0 k) = m ((c.tc : Thread nD τ).loc main_arg3) (ix1 k) := by
  have e : bias m c (ix2 0 k) = V m c main_v0 (ix2 0 k) := by
    show V m c main_v0 _ = _
    refine congrArg _ ?_
    funext d
    apply Fin.ext
    match d with
    | ⟨0, _⟩ => rfl
    | ⟨1, _⟩ => show 0 + 1 * k.val = k.val; omega
  rw [e]
  entry_read
  pointwise

/-- The result with all pieces written, whatever it held before. -/
theorem written_eq {c : Dev nD} (x : Held (F := Ideal) c nodes) (w : Vec Ideal S128x128 .f32) (b : Vec Ideal S1x128 .f32) (v : Vec Ideal S128 .f32)
    (hv : ∀ k : Fin 128, b (ix2 0 k) = v (ix1 k)) (o : Held (F := Ideal) c result) :
    result.view.writes (Elt Ideal) o (pieces x w b) = out x w v := by
  refine (View.read_whole main_v1 _).symm.trans ?_
  funext y
  exact View.read_writes_apply_of_pieces (View.whole main_v1) o (out x w v) (pieces x w b) (pieces_eq x w b v hv) y (pieces_cover x w b y)

/-- The result after the run, as one array. -/
theorem final_eq (c : Dev nD) :
    final m c = out (m ((c.tc : Thread nD τ).loc main_arg0)) (m ((c.tc : Thread nD τ).loc main_arg2)) (m ((c.tc : Thread nD τ).loc main_arg3)) := by
  unfold final
  rw [written_eq _ _ _ _ (bias_eq m c), weights_eq, V_main_arg0]

end Cert.KernelIdeal.Hand

end
-- ==== Proof.ReferenceIdealValue.lean ====
/-
  What the reference leaves in its result, as one array, for the index list 0, 1, …, 49999: `Update.out` of the node table,
  the weights and the bias.

  The reference takes the listed rows, updates them and puts them back. With this list, taking reads row `i` for entry `i`,
  no index is wrapped or out of range, and putting back writes each row before row 50000 once and no other.
-/
module

public import proofs.«01_k».proof.Proof.Gen.ReferenceIdeal.Run
public import proofs.«01_k».proof.Proof.Gen.Pre_active_prefix
public import proofs.«01_k».proof.Proof.Update
public import Idealize.ShloMosaic.Lib.Pointwise
public import Idealize.ShloMosaic.Lib.Routing.OpsSet
public import Idealize.ShloMosaic.Lib.ReduceAll
public import Idealize.ShloMosaic.Lib.StableHlo.Predicate

@[expose] public section

set_option maxRecDepth 16384

noncomputable section

namespace Cert.ReferenceIdeal.Hand

open Cert.ReferenceIdeal Cert.ReferenceIdeal.Gen
open Idealize.ShloMosaic
open Cert.Update

/-- The list names the rows 0, 1, …, 49999 in this order. -/
def Prefix (p : IVec S50000 32) : Prop := ∀ i : Fin 50000, p (ix1 i) = BitVec.ofNat 32 i.val

/-- The precondition says exactly this of the list. -/
theorem prefix_of_pre (x : FVec Ideal Cert.Pre_active_prefix.S100000x128 .f32) (p : IVec S50000 32)
    (w : FVec Ideal Cert.Pre_active_prefix.S128x128 .f32) (b : FVec Ideal Cert.Pre_active_prefix.S128 .f32)
    (h : Cert.Pre_active_prefix.fn (F := Ideal) x p w b = fun _ => 1#1) : Prefix p := fun i => by
  have h0 := congrFun h ix0
  dsimp only [Cert.Pre_active_prefix.fn] at h0
  haveI : Subsingleton Cert.Pre_active_prefix.S_.Idx := ⟨fun a b => funext fun d => d.elim0⟩
  have h1 := Host.reduce_andi_all _ _ _ _ _ h0 (ix1 i)
  exact StableHlo.Predicate.cmpi_eq_iff.mp h1

/-- The list as a column of row numbers, negative numbers counted from the end. -/
def column (p : IVec S50000 32) : IVec S50000x1 32 :=
  broadcastInDim S50000x1 ![0] bcast_S50000_S50000x1_0
    (select (cmpi .slt p (broadcastInDim S50000 ![] bcast_S_S50000 (constantI S_ 32 0#32)))
      (addi p (broadcastInDim S50000 ![] bcast_S_S50000 (constantI S_ 32 100000#32))) p)

/-- The column holds the row number `i` in place `i`. -/
theorem column_apply (p : IVec S50000 32) (hp : Prefix p) (i : Fin 50000) : column p (ix2 i 0) = BitVec.ofNat 32 i.val := by
  unfold column
  pointwise
  rw [hp]
  exact Routing.wrap_of_lt _ _ (by rw [BitVec.toNat_ofNat]; omega)

/-- For every entry: is its row number in range? -/
def inRange (p : IVec S50000 32) : IVec S50000 1 :=
  Host.reduce IntOp.andi (andi (cmpi .sge (column p) (broadcastInDim S50000x1 ![] bcast_S_S50000x1 (constantI S_ 32 0#32)))
      (cmpi .sle (column p) (broadcastInDim S50000x1 ![0, 1] bcast_S1x1_S50000x1_0_1 (broadcastInDim S1x1 ![1] bcast_S1_S1x1_1 (constantI S1 32 99999#32)))))
    (constantI S_ 1 1#1) reducesTo_S50000x1_S50000_d1 h_S_

/-- Every row number is in range. -/
theorem inRange_apply (p : IVec S50000 32) (hp : Prefix p) (i : S50000.Idx) : inRange p i = 1#1 := by
  unfold inRange
  refine Host.reduce_andi_one _ _ _ _ _ rfl fun j => ?_
  obtain ⟨a, b, rfl⟩ : ∃ a b, j = ix2 a b := ⟨j 0, j 1, eq_ix2 j⟩
  obtain rfl : b = 0 := Subsingleton.elim _ _
  show IntOp.andi (IntOp.cmpi .sge (column p (ix2 a 0)) 0#32) (IntOp.cmpi .sle (column p (ix2 a 0)) 99999#32) = 1#1
  rw [column_apply p hp, IntOp.andi_eq_one]
  have ha : (BitVec.ofNat 32 a.val).toNat = a.val := by rw [BitVec.toNat_ofNat]; omega
  constructor
  · rw [StableHlo.Predicate.sge_iff_toNat (by omega) (by decide)]; exact Nat.zero_le _
  · rw [StableHlo.Predicate.sle_iff_toNat (by omega) (by decide), ha]; show a.val ≤ 99999; omega

/-- The rows taken from the table. -/
def taken (x : FVec Ideal S100000x128 .f32) (p : IVec S50000 32) : FVec Ideal S50000x128 .f32 :=
  select (broadcastInDim S50000x128 ![0] bcast_S50000_S50000x128_0 (inRange p))
    (Host.gather gather_S100000x128_S50000x1_S50000x128_1_0_n_n_0_1_1128 x (column p))
    (broadcastInDim S50000x128 ![] bcast_S_S50000x128 (constant S_ .f32 0x7FC00000#32))

/-- Row `i` of the taken rows is row `i` of the table. -/
theorem taken_apply (x : FVec Ideal S100000x128 .f32) (p : IVec S50000 32) (hp : Prefix p) (i : Fin 50000) (k : Fin 128) :
    taken x p (ix2 i k) = x (ix2 ⟨i.val, by omega⟩ k) := by
  unfold taken
  rw [ValueIdx.select_apply, show broadcastInDim S50000x128 ![0] bcast_S50000_S50000x128_0 (inRange p) (ix2 i k) = 1#1 from inRange_apply p hp _,
    ValueIdx.select_one]
  rw [ix2_eq_valueIdx, ix2_eq_valueIdx]
  exact Routing.gather_row _ rfl rfl rfl rfl rfl x (column p) i k ⟨i.val, by omega⟩
    (by rw [← ix2_eq_valueIdx]; exact column_apply p hp i) (by norm_num)

/-- The updated rows. -/
def updates (x : FVec Ideal S100000x128 .f32) (p : IVec S50000 32) (w : FVec Ideal S128x128 .f32) (b : FVec Ideal S128 .f32) :
    FVec Ideal S50000x128 .f32 :=
  maximumf (addf (Host.dotGeneral dot_S50000x128_S128x128_S50000x128_1_0_0_1_n_n none (taken x p) w)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- Row `i` of the updated rows is the update of row `i` of the table. -/
theorem updates_apply (x : FVec Ideal S100000x128 .f32) (p : IVec S50000 32) (hp : Prefix p) (w : FVec Ideal S128x128 .f32)
    (b : FVec Ideal S128 .f32) (i : Fin 50000) (k : Fin 128) : updates x p w b (ix2 i k) = updated x w b ⟨i.val, by omega⟩ k := by
  have e : updates x p w b (ix2 i k) = max ((∑ j : Fin 128, (taken x p (ix2 i j) : EReal) * (w (ix2 j k) : EReal)) + (b (ix1 k) : EReal)) 0 := by
    pointwise [updates]
  rw [e]
  unfold updated
  simp only [taken_apply x p hp]

/-- Where one element of the updates is put. -/
theorem lands (p : IVec S50000x1 32) (i : Fin 50000) (k : Fin 128) (r : Fin 100000) (l : Fin 128) :
    scatter_S100000x128_S50000x1_S50000x128_1_0_0_1.resultIdx? (ix2 i k) p = some (ix2 r l)
      ↔ (p (ix2 i 0)).toInt = (r.val : Int) ∧ k = l := by
  have h0 : scatter_S100000x128_S50000x1_S50000x128_1_0_0_1.start (ix2 i k) p 0 = (p (ix2 i 0)).toInt := by
    have e : scatter_S100000x128_S50000x1_S50000x128_1_0_0_1.start (ix2 i k) p 0
        = (p (scatter_S100000x128_S50000x1_S50000x128_1_0_0_1.siIdx (ix2 i k) ⟨0, by decide⟩)).toInt := rfl
    rw [e]
    refine congrArg (fun q => (p q).toInt) (funext fun a => Fin.ext ?_)
    match a with
    | ⟨0, _⟩ => rfl
    | ⟨1, _⟩ => rfl
  have h1 : scatter_S100000x128_S50000x1_S50000x128_1_0_0_1.start (ix2 i k) p 1 = 0 := rfl
  have w0 : scatter_S100000x128_S50000x1_S50000x128_1_0_0_1.window (ix2 i k) 0 = 0 := rfl
  have w1 : scatter_S100000x128_S50000x1_S50000x128_1_0_0_1.window (ix2 i k) 1 = k.val := rfl
  rw [ix2_eq_valueIdx r l, Routing.resultIdx?_ix2, h0, h1, w0, w1]
  constructor
  · rintro ⟨a, b⟩; exact ⟨by omega, Fin.ext (by omega)⟩
  · rintro ⟨a, rfl⟩; exact ⟨by omega, by omega⟩

/-- The reference's result. -/
def result (x : FVec Ideal S100000x128 .f32) (p : IVec S50000 32) (w : FVec Ideal S128x128 .f32) (b : FVec Ideal S128 .f32) :
    FVec Ideal S100000x128 .f32 :=
  Host.scatter scatter_S100000x128_S50000x1_S50000x128_1_0_0_1 (fun _ b => b) x (column p) (updates x p w b)

/-- For the list 0, 1, …, 49999 the reference's result is `out`. -/
theorem result_eq (x : FVec Ideal S100000x128 .f32) (p : IVec S50000 32) (hp : Prefix p) (w : FVec Ideal S128x128 .f32)
    (b : FVec Ideal S128 .f32) : result x p w b = out x w b := by
  have hi : ∀ i : Fin 50000, (column p (ix2 i 0)).toInt = (i.val : Int) := fun i => by
    rw [column_apply p hp, StableHlo.Predicate.toInt_ofNat_small _ (by omega)]
  funext y
  obtain ⟨r, l, rfl⟩ : ∃ r l, y = ix2 r l := ⟨y 0, y 1, eq_ix2 y⟩
  unfold result
  by_cases h : r.val < 50000
  · rw [out_updated x w b r l h]
    refine Routing.scatter_set_hit _ _ _ _ _ _ (fun j hj => ?_) (ix2 ⟨r.val, h⟩ l) ((lands _ _ _ _ _).mpr ⟨hi _, rfl⟩)
    obtain ⟨i, k, rfl⟩ : ∃ i k, j = ix2 i k := ⟨j 0, j 1, eq_ix2 j⟩
    obtain ⟨e, rfl⟩ := (lands _ _ _ _ _).mp hj
    rw [hi] at e
    rw [updates_apply x p hp]
    exact congrArg (fun q => updated x w b q k) (Fin.ext (by show i.val = r.val; omega))
  · rw [out_kept x w b r l (by omega)]
    refine Routing.scatter_set_miss _ _ _ _ _ fun j hj => ?_
    obtain ⟨i, k, rfl⟩ : ∃ i k, j = ix2 i k := ⟨j 0, j 1, eq_ix2 j⟩
    have e := ((lands _ _ _ _ _).mp hj).1
    rw [hi] at e
    have := i.isLt
    omega

end Cert.ReferenceIdeal.Hand

end
-- ==== Proof.lean ====
/-
  The proof of `Cert.Claim`: both kernels and the reference end without a fault, with their arguments unchanged and every
  counter at zero; the kernel and the reference, read over the extended reals, leave the same array when the index list is
  0, 1, …, 49999.
-/
module

public import proofs.«01_k».proof.Defs
public import proofs.«01_k».proof.Proof.KernelRun
public import proofs.«01_k».proof.Proof.KernelIdealValue
public import proofs.«01_k».proof.Proof.ReferenceIdealValue
public import Idealize.ShloMosaic.Adequacy
public import Idealize.ShloMosaic.Init

@[expose] public section

noncomputable section

namespace Cert.Proof

open Idealize.ShloMosaic Idealize.SL.Sem Cert.Kernel

/-- The reference ends without a fault, with its arguments unchanged. It has no counters. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference leave the same result when the index list is 0, 1, …, 49999: both leave `Update.out`. -/
theorem same_result : Cert.algebraic_KernelIdeal_ReferenceIdeal_pre_active_prefix := fun m ρ m' ρ' hpre hsame =>
  ⟨fun c => Cert.KernelIdeal.Hand.final m c, Cert.KernelIdeal.Hand.run_value m ρ,
    (θ_run Cert.ReferenceIdeal.defs _ _).mono (fun r h c => ⟨(h c).1.trans (by
        obtain ⟨e0, e1, e2, e3⟩ := hsame c
        rw [e0, e1, e2, e3]
        exact (Cert.ReferenceIdeal.Hand.result_eq _ _ (Cert.ReferenceIdeal.Hand.prefix_of_pre _ _ _ _ (hpre c)) _ _).trans
          (Cert.KernelIdeal.Hand.final_eq m c).symm), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_active_prefix.Gen.facts,
    fun m ρ _ => Cert.Kernel.Hand.frame m ρ, fun m ρ _ => Cert.KernelIdeal.Hand.frame m ρ, fun m ρ _ => Cert.KernelIdeal.Hand.frame m ρ,
    reference_frame, fun m ρ _ => reference_frame m ρ trivial, trivial, same_result⟩

end Cert.Proof

end
